-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16x4096x1024 : Shape := ⟨3, ![16, 4096, 1024]⟩
abbrev S16 : Shape := ⟨1, ![16]⟩
abbrev S16x1024 : Shape := ⟨2, ![16, 1024]⟩
abbrev S_ : Shape := ⟨0, ![]⟩
abbrev S1 : Shape := ⟨1, ![1]⟩
abbrev S1x1024 : Shape := ⟨2, ![1, 1024]⟩
abbrev S1x1x1024 : Shape := ⟨3, ![1, 1, 1024]⟩

abbrev nBuf : Space → Nat
  | .hbm => 2
  | .vmem => 0
  | .smem => 1
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .local _ .smem, ⟨0, _⟩ => ⟨S16, .i32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 3 → Nat :=
  let c0_i32_45 : BitVec 32 := 0#32
  let c4095_i32 : BitVec 32 := 4095#32
  let c0_i32 : BitVec 32 := 0#32
  let c1_i32 : BitVec 32 := 1#32
  let v1 : BitVec 32 := Scalar.subi v0 c1_i32
  let v2 : BitVec 32 := Scalar.maxsi c0_i32 v1
  let v3 : BitVec 32 := Scalar.minsi c4095_i32 v2
  let c0_i32_48 : BitVec 32 := 0#32
  ![0, v3.toNat, 0]

def k0_off2 (v4 : BitVec 32) : Fin 3 → Nat :=
  let c1_i32_49 : BitVec 32 := 1#32
  let c4095_i32_2 : BitVec 32 := 4095#32
  let c0_i32_1 : BitVec 32 := 0#32
  let c1_i32_0 : BitVec 32 := 1#32
  let v5 : BitVec 32 := Scalar.subi v4 c1_i32_0
  let v6 : BitVec 32 := Scalar.maxsi c0_i32_1 v5
  let v7 : BitVec 32 := Scalar.minsi c4095_i32_2 v6
  let c0_i32_52 : BitVec 32 := 0#32
  ![1, v7.toNat, 0]

def k0_off3 (v8 : BitVec 32) : Fin 3 → Nat :=
  let c2_i32 : BitVec 32 := 2#32
  let c4095_i32_5 : BitVec 32 := 4095#32
  let c0_i32_4 : BitVec 32 := 0#32
  let c1_i32_3 : BitVec 32 := 1#32
  let v9 : BitVec 32 := Scalar.subi v8 c1_i32_3
  let v10 : BitVec 32 := Scalar.maxsi c0_i32_4 v9
  let v11 : BitVec 32 := Scalar.minsi c4095_i32_5 v10
  let c0_i32_55 : BitVec 32 := 0#32
  ![2, v11.toNat, 0]

def k0_off4 (v12 : BitVec 32) : Fin 3 → Nat :=
  let c3_i32 : BitVec 32 := 3#32
  let c4095_i32_8 : BitVec 32 := 4095#32
  let c0_i32_7 : BitVec 32 := 0#32
  let c1_i32_6 : BitVec 32 := 1#32
  let v13 : BitVec 32 := Scalar.subi v12 c1_i32_6
  let v14 : BitVec 32 := Scalar.maxsi c0_i32_7 v13
  let v15 : BitVec 32 := Scalar.minsi c4095_i32_8 v14
  let c0_i32_58 : BitVec 32 := 0#32
  ![3, v15.toNat, 0]

def k0_off5 (v16 : BitVec 32) : Fin 3 → Nat :=
  let c4_i32 : BitVec 32 := 4#32
  let c4095_i32_11 : BitVec 32 := 4095#32
  let c0_i32_10 : BitVec 32 := 0#32
  let c1_i32_9 : BitVec 32 := 1#32
  let v17 : BitVec 32 := Scalar.subi v16 c1_i32_9
  let v18 : BitVec 32 := Scalar.maxsi c0_i32_10 v17
  let v19 : BitVec 32 := Scalar.minsi c4095_i32_11 v18
  let c0_i32_61 : BitVec 32 := 0#32
  ![4, v19.toNat, 0]

def k0_off6 (v20 : BitVec 32) : Fin 3 → Nat :=
  let c5_i32 : BitVec 32 := 5#32
  let c4095_i32_14 : BitVec 32 := 4095#32
  let c0_i32_13 : BitVec 32 := 0#32
  let c1_i32_12 : BitVec 32 := 1#32
  let v21 : BitVec 32 := Scalar.subi v20 c1_i32_12
  let v22 : BitVec 32 := Scalar.maxsi c0_i32_13 v21
  let v23 : BitVec 32 := Scalar.minsi c4095_i32_14 v22
  let c0_i32_64 : BitVec 32 := 0#32
  ![5, v23.toNat, 0]

def k0_off7 (v24 : BitVec 32) : Fin 3 → Nat :=
  let c6_i32 : BitVec 32 := 6#32
  let c4095_i32_17 : BitVec 32 := 4095#32
  let c0_i32_16 : BitVec 32 := 0#32
  let c1_i32_15 : BitVec 32 := 1#32
  let v25 : BitVec 32 := Scalar.subi v24 c1_i32_15
  let v26 : BitVec 32 := Scalar.maxsi c0_i32_16 v25
  let v27 : BitVec 32 := Scalar.minsi c4095_i32_17 v26
  let c0_i32_67 : BitVec 32 := 0#32
  ![6, v27.toNat, 0]

def k0_off8 (v28 : BitVec 32) : Fin 3 → Nat :=
  let c7_i32 : BitVec 32 := 7#32
  let c4095_i32_20 : BitVec 32 := 4095#32
  let c0_i32_19 : BitVec 32 := 0#32
  let c1_i32_18 : BitVec 32 := 1#32
  let v29 : BitVec 32 := Scalar.subi v28 c1_i32_18
  let v30 : BitVec 32 := Scalar.maxsi c0_i32_19 v29
  let v31 : BitVec 32 := Scalar.minsi c4095_i32_20 v30
  let c0_i32_70 : BitVec 32 := 0#32
  ![7, v31.toNat, 0]

def k0_off9 (v32 : BitVec 32) : Fin 3 → Nat :=
  let c8_i32 : BitVec 32 := 8#32
  let c4095_i32_23 : BitVec 32 := 4095#32
  let c0_i32_22 : BitVec 32 := 0#32
  let c1_i32_21 : BitVec 32 := 1#32
  let v33 : BitVec 32 := Scalar.subi v32 c1_i32_21
  let v34 : BitVec 32 := Scalar.maxsi c0_i32_22 v33
  let v35 : BitVec 32 := Scalar.minsi c4095_i32_23 v34
  let c0_i32_73 : BitVec 32 := 0#32
  ![8, v35.toNat, 0]

def k0_off10 (v36 : BitVec 32) : Fin 3 → Nat :=
  let c9_i32 : BitVec 32 := 9#32
  let c4095_i32_26 : BitVec 32 := 4095#32
  let c0_i32_25 : BitVec 32 := 0#32
  let c1_i32_24 : BitVec 32 := 1#32
  let v37 : BitVec 32 := Scalar.subi v36 c1_i32_24
  let v38 : BitVec 32 := Scalar.maxsi c0_i32_25 v37
  let v39 : BitVec 32 := Scalar.minsi c4095_i32_26 v38
  let c0_i32_76 : BitVec 32 := 0#32
  ![9, v39.toNat, 0]

def k0_off11 (v40 : BitVec 32) : Fin 3 → Nat :=
  let c10_i32 : BitVec 32 := 10#32
  let c4095_i32_29 : BitVec 32 := 4095#32
  let c0_i32_28 : BitVec 32 := 0#32
  let c1_i32_27 : BitVec 32 := 1#32
  let v41 : BitVec 32 := Scalar.subi v40 c1_i32_27
  let v42 : BitVec 32 := Scalar.maxsi c0_i32_28 v41
  let v43 : BitVec 32 := Scalar.minsi c4095_i32_29 v42
  let c0_i32_79 : BitVec 32 := 0#32
  ![10, v43.toNat, 0]

def k0_off12 (v44 : BitVec 32) : Fin 3 → Nat :=
  let c11_i32 : BitVec 32 := 11#32
  let c4095_i32_32 : BitVec 32 := 4095#32
  let c0_i32_31 : BitVec 32 := 0#32
  let c1_i32_30 : BitVec 32 := 1#32
  let v45 : BitVec 32 := Scalar.subi v44 c1_i32_30
  let v46 : BitVec 32 := Scalar.maxsi c0_i32_31 v45
  let v47 : BitVec 32 := Scalar.minsi c4095_i32_32 v46
  let c0_i32_82 : BitVec 32 := 0#32
  ![11, v47.toNat, 0]

def k0_off13 (v48 : BitVec 32) : Fin 3 → Nat :=
  let c12_i32 : BitVec 32 := 12#32
  let c4095_i32_35 : BitVec 32 := 4095#32
  let c0_i32_34 : BitVec 32 := 0#32
  let c1_i32_33 : BitVec 32 := 1#32
  let v49 : BitVec 32 := Scalar.subi v48 c1_i32_33
  let v50 : BitVec 32 := Scalar.maxsi c0_i32_34 v49
  let v51 : BitVec 32 := Scalar.minsi c4095_i32_35 v50
  let c0_i32_85 : BitVec 32 := 0#32
  ![12, v51.toNat, 0]

def k0_off14 (v52 : BitVec 32) : Fin 3 → Nat :=
  let c13_i32 : BitVec 32 := 13#32
  let c4095_i32_38 : BitVec 32 := 4095#32
  let c0_i32_37 : BitVec 32 := 0#32
  let c1_i32_36 : BitVec 32 := 1#32
  let v53 : BitVec 32 := Scalar.subi v52 c1_i32_36
  let v54 : BitVec 32 := Scalar.maxsi c0_i32_37 v53
  let v55 : BitVec 32 := Scalar.minsi c4095_i32_38 v54
  let c0_i32_88 : BitVec 32 := 0#32
  ![13, v55.toNat, 0]

def k0_off15 (v56 : BitVec 32) : Fin 3 → Nat :=
  let c14_i32 : BitVec 32 := 14#32
  let c4095_i32_41 : BitVec 32 := 4095#32
  let c0_i32_40 : BitVec 32 := 0#32
  let c1_i32_39 : BitVec 32 := 1#32
  let v57 : BitVec 32 := Scalar.subi v56 c1_i32_39
  let v58 : BitVec 32 := Scalar.maxsi c0_i32_40 v57
  let v59 : BitVec 32 := Scalar.minsi c4095_i32_41 v58
  let c0_i32_91 : BitVec 32 := 0#32
  ![14, v59.toNat, 0]

def k0_off16 (v60 : BitVec 32) : Fin 3 → Nat :=
  let c15_i32 : BitVec 32 := 15#32
  let c4095_i32_44 : BitVec 32 := 4095#32
  let c0_i32_43 : BitVec 32 := 0#32
  let c1_i32_42 : BitVec 32 := 1#32
  let v61 : BitVec 32 := Scalar.subi v60 c1_i32_42
  let v62 : BitVec 32 := Scalar.maxsi c0_i32_43 v61
  let v63 : BitVec 32 := Scalar.minsi c4095_i32_44 v62
  let c0_i32_94 : BitVec 32 := 0#32
  ![15, v63.toNat, 0]

def k0_chk16 (v60 : BitVec 32) : Prop :=
  (∀ a, (k0_off16 v60) a + S1x1x1024.size a ≤ S16x4096x1024.size a)
theorem k0_off16_inb : ∀ (v60 : BitVec 32) (k0_hw16 : k0_chk16 v60), ∀ a, (k0_off16 v60) a + S1x1x1024.size a ≤ S16x4096x1024.size a := fun v60 k0_hw16 => k0_hw16

def k0_off17 (v0 : BitVec 32) : Fin 3 → Nat :=
  let c0_i32_95 : BitVec 32 := 0#32
  let c4095_i32 : BitVec 32 := 4095#32
  let c0_i32 : BitVec 32 := 0#32
  let c1_i32 : BitVec 32 := 1#32
  let v1 : BitVec 32 := Scalar.subi v0 c1_i32
  let v2 : BitVec 32 := Scalar.maxsi c0_i32 v1
  let v3 : BitVec 32 := Scalar.minsi c4095_i32 v2
  let c0_i32_98 : BitVec 32 := 0#32
  ![0, v3.toNat, 0]

def k0_chk1 (v0 : BitVec 32) : Prop :=
  (∀ a, (k0_off1 v0) a + S1x1x1024.size a ≤ S16x4096x1024.size a) ∧
  (∀ a, (k0_off17 v0) a + S1x1x1024.size a ≤ S16x4096x1024.size a)
theorem k0_off1_inb : ∀ (v0 : BitVec 32) (k0_hw1 : k0_chk1 v0), ∀ a, (k0_off1 v0) a + S1x1x1024.size a ≤ S16x4096x1024.size a := fun v0 k0_hw1 => k0_hw1.1
theorem k0_off17_inb : ∀ (v0 : BitVec 32) (k0_hw1 : k0_chk1 v0), ∀ a, (k0_off17 v0) a + S1x1x1024.size a ≤ S16x4096x1024.size a := fun v0 k0_hw1 => k0_hw1.2

def k0_off18 (v4 : BitVec 32) : Fin 3 → Nat :=
  let c1_i32_99 : BitVec 32 := 1#32
  let c4095_i32_2 : BitVec 32 := 4095#32
  let c0_i32_1 : BitVec 32 := 0#32
  let c1_i32_0 : BitVec 32 := 1#32
  let v5 : BitVec 32 := Scalar.subi v4 c1_i32_0
  let v6 : BitVec 32 := Scalar.maxsi c0_i32_1 v5
  let v7 : BitVec 32 := Scalar.minsi c4095_i32_2 v6
  let c0_i32_102 : BitVec 32 := 0#32
  ![1, v7.toNat, 0]

def k0_chk2 (v4 : BitVec 32) : Prop :=
  (∀ a, (k0_off2 v4) a + S1x1x1024.size a ≤ S16x4096x1024.size a) ∧
  (∀ a, (k0_off18 v4) a + S1x1x1024.size a ≤ S16x4096x1024.size a)
theorem k0_off2_inb : ∀ (v4 : BitVec 32) (k0_hw2 : k0_chk2 v4), ∀ a, (k0_off2 v4) a + S1x1x1024.size a ≤ S16x4096x1024.size a := fun v4 k0_hw2 => k0_hw2.1
theorem k0_off18_inb : ∀ (v4 : BitVec 32) (k0_hw2 : k0_chk2 v4), ∀ a, (k0_off18 v4) a + S1x1x1024.size a ≤ S16x4096x1024.size a := fun v4 k0_hw2 => k0_hw2.2

def k0_off19 (v8 : BitVec 32) : Fin 3 → Nat :=
  let c2_i32_103 : BitVec 32 := 2#32
  let c4095_i32_5 : BitVec 32 := 4095#32
  let c0_i32_4 : BitVec 32 := 0#32
  let c1_i32_3 : BitVec 32 := 1#32
  let v9 : BitVec 32 := Scalar.subi v8 c1_i32_3
  let v10 : BitVec 32 := Scalar.maxsi c0_i32_4 v9
  let v11 : BitVec 32 := Scalar.minsi c4095_i32_5 v10
  let c0_i32_106 : BitVec 32 := 0#32
  ![2, v11.toNat, 0]

def k0_chk3 (v8 : BitVec 32) : Prop :=
  (∀ a, (k0_off3 v8) a + S1x1x1024.size a ≤ S16x4096x1024.size a) ∧
  (∀ a, (k0_off19 v8) a + S1x1x1024.size a ≤ S16x4096x1024.size a)
theorem k0_off3_inb : ∀ (v8 : BitVec 32) (k0_hw3 : k0_chk3 v8), ∀ a, (k0_off3 v8) a + S1x1x1024.size a ≤ S16x4096x1024.size a := fun v8 k0_hw3 => k0_hw3.1
theorem k0_off19_inb : ∀ (v8 : BitVec 32) (k0_hw3 : k0_chk3 v8), ∀ a, (k0_off19 v8) a + S1x1x1024.size a ≤ S16x4096x1024.size a := fun v8 k0_hw3 => k0_hw3.2

def k0_off20 (v12 : BitVec 32) : Fin 3 → Nat :=
  let c3_i32_107 : BitVec 32 := 3#32
  let c4095_i32_8 : BitVec 32 := 4095#32
  let c0_i32_7 : BitVec 32 := 0#32
  let c1_i32_6 : BitVec 32 := 1#32
  let v13 : BitVec 32 := Scalar.subi v12 c1_i32_6
  let v14 : BitVec 32 := Scalar.maxsi c0_i32_7 v13
  let v15 : BitVec 32 := Scalar.minsi c4095_i32_8 v14
  let c0_i32_110 : BitVec 32 := 0#32
  ![3, v15.toNat, 0]

def k0_chk4 (v12 : BitVec 32) : Prop :=
  (∀ a, (k0_off4 v12) a + S1x1x1024.size a ≤ S16x4096x1024.size a) ∧
  (∀ a, (k0_off20 v12) a + S1x1x1024.size a ≤ S16x4096x1024.size a)
theorem k0_off4_inb : ∀ (v12 : BitVec 32) (k0_hw4 : k0_chk4 v12), ∀ a, (k0_off4 v12) a + S1x1x1024.size a ≤ S16x4096x1024.size a := fun v12 k0_hw4 => k0_hw4.1
theorem k0_off20_inb : ∀ (v12 : BitVec 32) (k0_hw4 : k0_chk4 v12), ∀ a, (k0_off20 v12) a + S1x1x1024.size a ≤ S16x4096x1024.size a := fun v12 k0_hw4 => k0_hw4.2

def k0_off21 (v16 : BitVec 32) : Fin 3 → Nat :=
  let c4_i32_111 : BitVec 32 := 4#32
  let c4095_i32_11 : BitVec 32 := 4095#32
  let c0_i32_10 : BitVec 32 := 0#32
  let c1_i32_9 : BitVec 32 := 1#32
  let v17 : BitVec 32 := Scalar.subi v16 c1_i32_9
  let v18 : BitVec 32 := Scalar.maxsi c0_i32_10 v17
  let v19 : BitVec 32 := Scalar.minsi c4095_i32_11 v18
  let c0_i32_114 : BitVec 32 := 0#32
  ![4, v19.toNat, 0]

def k0_chk5 (v16 : BitVec 32) : Prop :=
  (∀ a, (k0_off5 v16) a + S1x1x1024.size a ≤ S16x4096x1024.size a) ∧
  (∀ a, (k0_off21 v16) a + S1x1x1024.size a ≤ S16x4096x1024.size a)
theorem k0_off5_inb : ∀ (v16 : BitVec 32) (k0_hw5 : k0_chk5 v16), ∀ a, (k0_off5 v16) a + S1x1x1024.size a ≤ S16x4096x1024.size a := fun v16 k0_hw5 => k0_hw5.1
theorem k0_off21_inb : ∀ (v16 : BitVec 32) (k0_hw5 : k0_chk5 v16), ∀ a, (k0_off21 v16) a + S1x1x1024.size a ≤ S16x4096x1024.size a := fun v16 k0_hw5 => k0_hw5.2

def k0_off22 (v20 : BitVec 32) : Fin 3 → Nat :=
  let c5_i32_115 : BitVec 32 := 5#32
  let c4095_i32_14 : BitVec 32 := 4095#32
  let c0_i32_13 : BitVec 32 := 0#32
  let c1_i32_12 : BitVec 32 := 1#32
  let v21 : BitVec 32 := Scalar.subi v20 c1_i32_12
  let v22 : BitVec 32 := Scalar.maxsi c0_i32_13 v21
  let v23 : BitVec 32 := Scalar.minsi c4095_i32_14 v22
  let c0_i32_118 : BitVec 32 := 0#32
  ![5, v23.toNat, 0]

def k0_chk6 (v20 : BitVec 32) : Prop :=
  (∀ a, (k0_off6 v20) a + S1x1x1024.size a ≤ S16x4096x1024.size a) ∧
  (∀ a, (k0_off22 v20) a + S1x1x1024.size a ≤ S16x4096x1024.size a)
theorem k0_off6_inb : ∀ (v20 : BitVec 32) (k0_hw6 : k0_chk6 v20), ∀ a, (k0_off6 v20) a + S1x1x1024.size a ≤ S16x4096x1024.size a := fun v20 k0_hw6 => k0_hw6.1
theorem k0_off22_inb : ∀ (v20 : BitVec 32) (k0_hw6 : k0_chk6 v20), ∀ a, (k0_off22 v20) a + S1x1x1024.size a ≤ S16x4096x1024.size a := fun v20 k0_hw6 => k0_hw6.2

def k0_off23 (v24 : BitVec 32) : Fin 3 → Nat :=
  let c6_i32_119 : BitVec 32 := 6#32
  let c4095_i32_17 : BitVec 32 := 4095#32
  let c0_i32_16 : BitVec 32 := 0#32
  let c1_i32_15 : BitVec 32 := 1#32
  let v25 : BitVec 32 := Scalar.subi v24 c1_i32_15
  let v26 : BitVec 32 := Scalar.maxsi c0_i32_16 v25
  let v27 : BitVec 32 := Scalar.minsi c4095_i32_17 v26
  let c0_i32_122 : BitVec 32 := 0#32
  ![6, v27.toNat, 0]

def k0_chk7 (v24 : BitVec 32) : Prop :=
  (∀ a, (k0_off7 v24) a + S1x1x1024.size a ≤ S16x4096x1024.size a) ∧
  (∀ a, (k0_off23 v24) a + S1x1x1024.size a ≤ S16x4096x1024.size a)
theorem k0_off7_inb : ∀ (v24 : BitVec 32) (k0_hw7 : k0_chk7 v24), ∀ a, (k0_off7 v24) a + S1x1x1024.size a ≤ S16x4096x1024.size a := fun v24 k0_hw7 => k0_hw7.1
theorem k0_off23_inb : ∀ (v24 : BitVec 32) (k0_hw7 : k0_chk7 v24), ∀ a, (k0_off23 v24) a + S1x1x1024.size a ≤ S16x4096x1024.size a := fun v24 k0_hw7 => k0_hw7.2

def k0_off24 (v28 : BitVec 32) : Fin 3 → Nat :=
  let c7_i32_123 : BitVec 32 := 7#32
  let c4095_i32_20 : BitVec 32 := 4095#32
  let c0_i32_19 : BitVec 32 := 0#32
  let c1_i32_18 : BitVec 32 := 1#32
  let v29 : BitVec 32 := Scalar.subi v28 c1_i32_18
  let v30 : BitVec 32 := Scalar.maxsi c0_i32_19 v29
  let v31 : BitVec 32 := Scalar.minsi c4095_i32_20 v30
  let c0_i32_126 : BitVec 32 := 0#32
  ![7, v31.toNat, 0]

def k0_chk8 (v28 : BitVec 32) : Prop :=
  (∀ a, (k0_off8 v28) a + S1x1x1024.size a ≤ S16x4096x1024.size a) ∧
  (∀ a, (k0_off24 v28) a + S1x1x1024.size a ≤ S16x4096x1024.size a)
theorem k0_off8_inb : ∀ (v28 : BitVec 32) (k0_hw8 : k0_chk8 v28), ∀ a, (k0_off8 v28) a + S1x1x1024.size a ≤ S16x4096x1024.size a := fun v28 k0_hw8 => k0_hw8.1
theorem k0_off24_inb : ∀ (v28 : BitVec 32) (k0_hw8 : k0_chk8 v28), ∀ a, (k0_off24 v28) a + S1x1x1024.size a ≤ S16x4096x1024.size a := fun v28 k0_hw8 => k0_hw8.2

def k0_off25 (v32 : BitVec 32) : Fin 3 → Nat :=
  let c8_i32_127 : BitVec 32 := 8#32
  let c4095_i32_23 : BitVec 32 := 4095#32
  let c0_i32_22 : BitVec 32 := 0#32
  let c1_i32_21 : BitVec 32 := 1#32
  let v33 : BitVec 32 := Scalar.subi v32 c1_i32_21
  let v34 : BitVec 32 := Scalar.maxsi c0_i32_22 v33
  let v35 : BitVec 32 := Scalar.minsi c4095_i32_23 v34
  let c0_i32_130 : BitVec 32 := 0#32
  ![8, v35.toNat, 0]

def k0_chk9 (v32 : BitVec 32) : Prop :=
  (∀ a, (k0_off9 v32) a + S1x1x1024.size a ≤ S16x4096x1024.size a) ∧
  (∀ a, (k0_off25 v32) a + S1x1x1024.size a ≤ S16x4096x1024.size a)
theorem k0_off9_inb : ∀ (v32 : BitVec 32) (k0_hw9 : k0_chk9 v32), ∀ a, (k0_off9 v32) a + S1x1x1024.size a ≤ S16x4096x1024.size a := fun v32 k0_hw9 => k0_hw9.1
theorem k0_off25_inb : ∀ (v32 : BitVec 32) (k0_hw9 : k0_chk9 v32), ∀ a, (k0_off25 v32) a + S1x1x1024.size a ≤ S16x4096x1024.size a := fun v32 k0_hw9 => k0_hw9.2

def k0_off26 (v36 : BitVec 32) : Fin 3 → Nat :=
  let c9_i32_131 : BitVec 32 := 9#32
  let c4095_i32_26 : BitVec 32 := 4095#32
  let c0_i32_25 : BitVec 32 := 0#32
  let c1_i32_24 : BitVec 32 := 1#32
  let v37 : BitVec 32 := Scalar.subi v36 c1_i32_24
  let v38 : BitVec 32 := Scalar.maxsi c0_i32_25 v37
  let v39 : BitVec 32 := Scalar.minsi c4095_i32_26 v38
  let c0_i32_134 : BitVec 32 := 0#32
  ![9, v39.toNat, 0]

def k0_chk10 (v36 : BitVec 32) : Prop :=
  (∀ a, (k0_off10 v36) a + S1x1x1024.size a ≤ S16x4096x1024.size a) ∧
  (∀ a, (k0_off26 v36) a + S1x1x1024.size a ≤ S16x4096x1024.size a)
theorem k0_off10_inb : ∀ (v36 : BitVec 32) (k0_hw10 : k0_chk10 v36), ∀ a, (k0_off10 v36) a + S1x1x1024.size a ≤ S16x4096x1024.size a := fun v36 k0_hw10 => k0_hw10.1
theorem k0_off26_inb : ∀ (v36 : BitVec 32) (k0_hw10 : k0_chk10 v36), ∀ a, (k0_off26 v36) a + S1x1x1024.size a ≤ S16x4096x1024.size a := fun v36 k0_hw10 => k0_hw10.2

def k0_off27 (v40 : BitVec 32) : Fin 3 → Nat :=
  let c10_i32_135 : BitVec 32 := 10#32
  let c4095_i32_29 : BitVec 32 := 4095#32
  let c0_i32_28 : BitVec 32 := 0#32
  let c1_i32_27 : BitVec 32 := 1#32
  let v41 : BitVec 32 := Scalar.subi v40 c1_i32_27
  let v42 : BitVec 32 := Scalar.maxsi c0_i32_28 v41
  let v43 : BitVec 32 := Scalar.minsi c4095_i32_29 v42
  let c0_i32_138 : BitVec 32 := 0#32
  ![10, v43.toNat, 0]

def k0_chk11 (v40 : BitVec 32) : Prop :=
  (∀ a, (k0_off11 v40) a + S1x1x1024.size a ≤ S16x4096x1024.size a) ∧
  (∀ a, (k0_off27 v40) a + S1x1x1024.size a ≤ S16x4096x1024.size a)
theorem k0_off11_inb : ∀ (v40 : BitVec 32) (k0_hw11 : k0_chk11 v40), ∀ a, (k0_off11 v40) a + S1x1x1024.size a ≤ S16x4096x1024.size a := fun v40 k0_hw11 => k0_hw11.1
theorem k0_off27_inb : ∀ (v40 : BitVec 32) (k0_hw11 : k0_chk11 v40), ∀ a, (k0_off27 v40) a + S1x1x1024.size a ≤ S16x4096x1024.size a := fun v40 k0_hw11 => k0_hw11.2

def k0_off28 (v44 : BitVec 32) : Fin 3 → Nat :=
  let c11_i32_139 : BitVec 32 := 11#32
  let c4095_i32_32 : BitVec 32 := 4095#32
  let c0_i32_31 : BitVec 32 := 0#32
  let c1_i32_30 : BitVec 32 := 1#32
  let v45 : BitVec 32 := Scalar.subi v44 c1_i32_30
  let v46 : BitVec 32 := Scalar.maxsi c0_i32_31 v45
  let v47 : BitVec 32 := Scalar.minsi c4095_i32_32 v46
  let c0_i32_142 : BitVec 32 := 0#32
  ![11, v47.toNat, 0]

def k0_chk12 (v44 : BitVec 32) : Prop :=
  (∀ a, (k0_off12 v44) a + S1x1x1024.size a ≤ S16x4096x1024.size a) ∧
  (∀ a, (k0_off28 v44) a + S1x1x1024.size a ≤ S16x4096x1024.size a)
theorem k0_off12_inb : ∀ (v44 : BitVec 32) (k0_hw12 : k0_chk12 v44), ∀ a, (k0_off12 v44) a + S1x1x1024.size a ≤ S16x4096x1024.size a := fun v44 k0_hw12 => k0_hw12.1
theorem k0_off28_inb : ∀ (v44 : BitVec 32) (k0_hw12 : k0_chk12 v44), ∀ a, (k0_off28 v44) a + S1x1x1024.size a ≤ S16x4096x1024.size a := fun v44 k0_hw12 => k0_hw12.2

def k0_off29 (v48 : BitVec 32) : Fin 3 → Nat :=
  let c12_i32_143 : BitVec 32 := 12#32
  let c4095_i32_35 : BitVec 32 := 4095#32
  let c0_i32_34 : BitVec 32 := 0#32
  let c1_i32_33 : BitVec 32 := 1#32
  let v49 : BitVec 32 := Scalar.subi v48 c1_i32_33
  let v50 : BitVec 32 := Scalar.maxsi c0_i32_34 v49
  let v51 : BitVec 32 := Scalar.minsi c4095_i32_35 v50
  let c0_i32_146 : BitVec 32 := 0#32
  ![12, v51.toNat, 0]

def k0_chk13 (v48 : BitVec 32) : Prop :=
  (∀ a, (k0_off13 v48) a + S1x1x1024.size a ≤ S16x4096x1024.size a) ∧
  (∀ a, (k0_off29 v48) a + S1x1x1024.size a ≤ S16x4096x1024.size a)
theorem k0_off13_inb : ∀ (v48 : BitVec 32) (k0_hw13 : k0_chk13 v48), ∀ a, (k0_off13 v48) a + S1x1x1024.size a ≤ S16x4096x1024.size a := fun v48 k0_hw13 => k0_hw13.1
theorem k0_off29_inb : ∀ (v48 : BitVec 32) (k0_hw13 : k0_chk13 v48), ∀ a, (k0_off29 v48) a + S1x1x1024.size a ≤ S16x4096x1024.size a := fun v48 k0_hw13 => k0_hw13.2

def k0_off30 (v52 : BitVec 32) : Fin 3 → Nat :=
  let c13_i32_147 : BitVec 32 := 13#32
  let c4095_i32_38 : BitVec 32 := 4095#32
  let c0_i32_37 : BitVec 32 := 0#32
  let c1_i32_36 : BitVec 32 := 1#32
  let v53 : BitVec 32 := Scalar.subi v52 c1_i32_36
  let v54 : BitVec 32 := Scalar.maxsi c0_i32_37 v53
  let v55 : BitVec 32 := Scalar.minsi c4095_i32_38 v54
  let c0_i32_150 : BitVec 32 := 0#32
  ![13, v55.toNat, 0]

def k0_chk14 (v52 : BitVec 32) : Prop :=
  (∀ a, (k0_off14 v52) a + S1x1x1024.size a ≤ S16x4096x1024.size a) ∧
  (∀ a, (k0_off30 v52) a + S1x1x1024.size a ≤ S16x4096x1024.size a)
theorem k0_off14_inb : ∀ (v52 : BitVec 32) (k0_hw14 : k0_chk14 v52), ∀ a, (k0_off14 v52) a + S1x1x1024.size a ≤ S16x4096x1024.size a := fun v52 k0_hw14 => k0_hw14.1
theorem k0_off30_inb : ∀ (v52 : BitVec 32) (k0_hw14 : k0_chk14 v52), ∀ a, (k0_off30 v52) a + S1x1x1024.size a ≤ S16x4096x1024.size a := fun v52 k0_hw14 => k0_hw14.2

def k0_off31 (v56 : BitVec 32) : Fin 3 → Nat :=
  let c14_i32_151 : BitVec 32 := 14#32
  let c4095_i32_41 : BitVec 32 := 4095#32
  let c0_i32_40 : BitVec 32 := 0#32
  let c1_i32_39 : BitVec 32 := 1#32
  let v57 : BitVec 32 := Scalar.subi v56 c1_i32_39
  let v58 : BitVec 32 := Scalar.maxsi c0_i32_40 v57
  let v59 : BitVec 32 := Scalar.minsi c4095_i32_41 v58
  let c0_i32_154 : BitVec 32 := 0#32
  ![14, v59.toNat, 0]

def k0_chk15 (v56 : BitVec 32) : Prop :=
  (∀ a, (k0_off15 v56) a + S1x1x1024.size a ≤ S16x4096x1024.size a) ∧
  (∀ a, (k0_off31 v56) a + S1x1x1024.size a ≤ S16x4096x1024.size a)
theorem k0_off15_inb : ∀ (v56 : BitVec 32) (k0_hw15 : k0_chk15 v56), ∀ a, (k0_off15 v56) a + S1x1x1024.size a ≤ S16x4096x1024.size a := fun v56 k0_hw15 => k0_hw15.1
theorem k0_off31_inb : ∀ (v56 : BitVec 32) (k0_hw15 : k0_chk15 v56), ∀ a, (k0_off31 v56) a + S1x1x1024.size a ≤ S16x4096x1024.size a := fun v56 k0_hw15 => k0_hw15.2
-- ==== Reference.lean ====
abbrev S16x4096x1024 : Shape := ⟨3, ![16, 4096, 1024]⟩
abbrev S16 : Shape := ⟨1, ![16]⟩
abbrev S_ : Shape := ⟨0, ![]⟩
abbrev S16x1x1 : Shape := ⟨3, ![16, 1, 1]⟩
abbrev S1 : Shape := ⟨1, ![1]⟩
abbrev S1x1x1 : Shape := ⟨3, ![1, 1, 1]⟩
abbrev S16x1 : Shape := ⟨2, ![16, 1]⟩
abbrev S16x1x1024 : Shape := ⟨3, ![16, 1, 1024]⟩
abbrev S16x1024 : Shape := ⟨2, ![16, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16, .i32⟩
  | .hbm, ⟨2, _⟩ => ⟨S_, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S16x1x1, .i32⟩
  | .hbm, ⟨14, _⟩ => ⟨S_, .i32⟩
  | .hbm, ⟨15, _⟩ => ⟨S16x1x1, .i32⟩
  | .hbm, ⟨16, _⟩ => ⟨S16x1x1, .i1⟩
  | .hbm, ⟨17, _⟩ => ⟨S_, .i32⟩
  | .hbm, ⟨18, _⟩ => ⟨S16x1x1, .i32⟩
  | .hbm, ⟨19, _⟩ => ⟨S16x1x1, .i32⟩
  | .hbm, ⟨20, _⟩ => ⟨S16x1x1, .i32⟩
  | .hbm, ⟨21, _⟩ => ⟨S1, .i32⟩
  | .hbm, ⟨22, _⟩ => ⟨S_, .i32⟩
  | .hbm, ⟨23, _⟩ => ⟨S16x1x1, .i32⟩
  | .hbm, ⟨24, _⟩ => ⟨S16x1x1, .i1⟩
  | .hbm, ⟨25, _⟩ => ⟨S1x1x1, .i32⟩
  | .hbm, ⟨26, _⟩ => ⟨S16x1x1, .i32⟩
  | .hbm, ⟨27, _⟩ => ⟨S16x1x1, .i1⟩
  | .hbm, ⟨28, _⟩ => ⟨S16x1x1, .i1⟩
  | .hbm, ⟨29, _⟩ => ⟨S_, .i1⟩
  | .hbm, ⟨30, _⟩ => ⟨S16x1, .i1⟩
  | .hbm, ⟨31, _⟩ => ⟨S16x1x1024, .f32⟩
  | .hbm, ⟨32, _⟩ => ⟨S16x1x1024, .i1⟩
  | .hbm, ⟨33, _⟩ => ⟨S_, .f32⟩
  | .hbm, ⟨34, _⟩ => ⟨S16x1x1024, .f32⟩
  | .hbm, ⟨35, _⟩ => ⟨S16x1x1024, .f32⟩
  | .hbm, ⟨36, _⟩ => ⟨S16x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_c_1 : Ref sig .tc := ⟨.hbm, 21, rfl⟩
abbrev main_call1_c_2 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_c_3 : Ref sig .tc := ⟨.hbm, 29, rfl⟩
abbrev main_call1_v11 : Ref sig .tc := ⟨.hbm, 30, rfl⟩
abbrev main_call1_v12 : Ref sig .tc := ⟨.hbm, 31, rfl⟩
abbrev main_call1_v13 : Ref sig .tc := ⟨.hbm, 32, rfl⟩
abbrev main_call1_cst : Ref sig .tc := ⟨.hbm, 33, rfl⟩
abbrev main_call1_v14 : Ref sig .tc := ⟨.hbm, 34, rfl⟩
abbrev main_v4 : Ref sig .tc := ⟨.hbm, 35, rfl⟩
abbrev main_v5 : Ref sig .tc := ⟨.hbm, 36, rfl⟩

abbrev nD : Nat := 1
abbrev τ : Topo := Topo.v7x

variable {F : FTy → Type} [FloatOps F]
-- ==== Proof.Words.lean ====
/-
  Hand-written, untrusted. The time index the kernel computes from a length word, in range whatever the word, and the
  gather of the rows at those indices: the array the kernel is to leave in its result.
-/
module

public import proofs.«01_k».proof.Proof.Gen.KernelIdeal
public import Idealize.ShloMosaic.Lib.ValueIdxCore

@[expose] public section

noncomputable section

namespace Cert.KernelIdeal.Hand

open Cert.KernelIdeal Cert.KernelIdeal.Gen
open Idealize.ShloMosaic Idealize.ShloMosaic.ValueIdx

/-- The row of the time axis that a length word `v` names: `v - 1` clipped, as a signed word, to `0 … 4095`. -/
def lastIdx (v : BitVec 32) : ℕ := (Scalar.minsi (4095#32) (Scalar.maxsi (0#32) (Scalar.subi v (1#32)))).toNat

/-- A signed word clipped to `0 … 4095` is at most 4095 as a number. -/
theorem clip_toNat_le (w : BitVec 32) : (Scalar.minsi (4095#32) (Scalar.maxsi (0#32) w)).toNat ≤ 4095 := by
  show (IntOp.minsi (4095#32) (IntOp.maxsi (0#32) w)).toNat ≤ 4095
  unfold IntOp.minsi IntOp.maxsi
  by_cases h : w.slt (0#32) = true
  · rw [if_pos h]; decide
  rw [if_neg h]
  by_cases h' : (4095#32).slt w = true
  · rw [if_pos h']; decide
  rw [if_neg h']
  rw [BitVec.slt_iff_toInt_lt] at h h'
  have h0 : (0#32).toInt = 0 := by decide
  have h1 : (4095#32).toInt = 4095 := by decide
  rw [h0] at h; rw [h1] at h'
  have := BitVec.toInt_eq_toNat_cond w
  split at this <;> omega

/-- The time index a length word names is at most 4095. -/
theorem lastIdx_le (v : BitVec 32) : lastIdx v ≤ 4095 := clip_toNat_le _

/-- The index of the row of the time axis that a length word names. -/
def lastRow (v : BitVec 32) : Fin 4096 := ⟨lastIdx v, Nat.lt_succ_of_le (lastIdx_le v)⟩

/-- The gather of the last valid row: of each batch element `b`, the row of `X` at the time index its length names. -/
def gath {F : FTy → Type} (T : Vec F S16 .i32) (X : Vec F S16x4096x1024 .f32) : Vec F S16x1024 .f32 :=
  fun y => X (ix3 (y 0) (lastRow (T (ix1 (y 0)))) (y 1))

/-- Entry `b` of the table of lengths lies inside it. -/
theorem word_inb (b : ℕ) (hb : b < 16) (a : Fin 1) : (![b] : Fin 1 → ℕ) a + S1.size a ≤ S16.size a := by
  fin_cases a
  show b + 1 ≤ 16; omega

/-- The one row `(b, lastIdx v, ·)` of the argument lies inside it. -/
theorem row_inb (b : ℕ) (hb : b < 16) (v : BitVec 32) (a : Fin 3) :
    (![b, lastIdx v, 0] : Fin 3 → ℕ) a + S1x1x1024.size a ≤ S16x4096x1024.size a := by
  have := lastIdx_le v
  fin_cases a
  · show b + 1 ≤ 16; omega
  · show lastIdx v + 1 ≤ 4096; omega
  · show 0 + 1024 ≤ 1024; omega

/-- Row `b` of the result lies inside it. -/
theorem out_inb (b : ℕ) (hb : b < 16) (a : Fin 2) : (![b, 0] : Fin 2 → ℕ) a + S1x1024.size a ≤ S16x1024.size a := by
  fin_cases a
  · show b + 1 ≤ 16; omega
  · show 0 + 1024 ≤ 1024; omega

end Cert.KernelIdeal.Hand

end

end
-- ==== Proof.Body.lean ====
/-
  Hand-written, untrusted. The kernel's body, run once for every float instance: sixteen asynchronous copies, one per
  batch element, are started on one semaphore and all waited for; the result then holds the gathered rows.
-/
module

public import proofs.«01_k».proof.Proof.Words
public import proofs.«01_k».proof.Proof.Gen.KernelIdeal.Launch
public import proofs.«01_k».proof.Proof.Gen.KernelIdeal.Skeleton
public import Idealize.ShloMosaic.Lib.Pipeline.Routed
public import Idealize.ShloMosaic.Lib.Batch
public import Idealize.ShloMosaic.Lib.Tactic
public import Idealize.ShloMosaic.Lib.Ring
public import Idealize.ShloMosaic.Lib.ViewIndex
public import Idealize.ShloMosaic.Lib.ValueLayout

@[expose] public section

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The table of lengths, held in scalar memory. -/
abbrev tbM : Memref sig .tc .smem S16 .i32 := Memref.whole main_arg1
/-- The argument the rows are read from. -/
abbrev xM : Memref sig .tc .hbm S16x4096x1024 .f32 := Memref.whole main_arg0
/-- The result. -/
abbrev oM : Memref sig .tc .hbm S16x1024 .f32 := Memref.whole main_v0

/-- The length word the kernel loads for batch element `b`. -/
def word (b : ℕ) (hb : b < 16) (T : Vec F S16 .i32) : BitVec 32 :=
  View.readAt (Elt F) tbM.view (Rect.unit (s := S16) ![b] S1.size (word_inb b hb)).toLoadRect T
    (Shape.Idx.first (by decide : 0 < S1.numel))

/-- The length word the kernel loads for batch element `b` is the table's entry `b`. -/
theorem word_eq (b : ℕ) (hb : b < 16) (T : Vec F S16 .i32) : word b hb T = T (ix1 ⟨b, hb⟩) :=
  congrArg T (funext fun a => by fin_cases a; rfl)

/-- What the copy for batch element `b` carries: the row of `X` that the loaded length word names. -/
def rowRead (b : ℕ) (hb : b < 16) (T : Vec F S16 .i32) (X : Vec F S16x4096x1024 .f32) : Vec F S1x1024 .f32 :=
  ((xM.slice (Rect.unit (s := S16x4096x1024) ![b, lastIdx (word b hb T), 0] S1x1x1024.size (row_inb b hb _))
    (fun _ => rfl)).squeeze S1x1024 squeezes_S1x1x1024_S1x1024).view.read (Elt F) X

/-- What the copy for batch element `b` carries is row `b` of the gathered array. -/
theorem rowRead_eq (b : ℕ) (hb : b < 16) (T : Vec F S16 .i32) (X : Vec F S16x4096x1024 .f32) (x : S1x1024.Idx) :
    rowRead b hb T X x = gath T X ((Rect.unit (s := S16x1024) ![b, 0] S1x1024.size (out_inb b hb)).emb x) := by
  unfold rowRead
  obtain ⟨x0, x1, rfl⟩ : ∃ (x0 : Fin 1) (x1 : Fin 1024), x = ix2 x0 x1 := ⟨x 0, x 1, eq_ix2 x⟩
  obtain rfl : x0 = 0 := Subsingleton.elim _ _
  have e0 : ((Rect.unit (s := S16x1024) ![b, 0] S1x1024.size (out_inb b hb)).emb (ix2 0 x1) : S16x1024.Idx)
      = ix2 ⟨b, hb⟩ x1 :=
    Rect.emb_eq_of_coords _ _ _ fun a => by
      fin_cases a
      · show b = b + 1 * 0; omega
      · show x1.val = 0 + 1 * x1.val; omega
  rw [e0]
  show X ((Rect.unit (s := S16x4096x1024) ![b, lastIdx (word b hb T), 0] S1x1x1024.size (row_inb b hb _)).emb
    (Shape.reshapeEquiv squeezes_S1x1x1024_S1x1024.numel_eq (ix2 0 x1)))
      = X (ix3 ⟨b, hb⟩ (lastRow (T (ix1 ⟨b, hb⟩))) x1)
  rw [← word_eq b hb T]
  refine congrArg X ?_
  rw [show Shape.reshapeEquiv squeezes_S1x1x1024_S1x1024.numel_eq (ix2 (0 : Fin 1) x1)
    = ix3 (0 : Fin 1) (0 : Fin 1) x1 from reshapeEquiv_ix2_1ab _ _ _]
  refine Rect.emb_eq_of_coords _ _ _ fun a => ?_
  fin_cases a
  · show b = b + 1 * 0; omega
  · show lastIdx _ = lastIdx _ + 1 * 0; omega
  · show x1.val = 0 + 1 * x1.val; omega

/-- The body's run, with the list of writes it leaves the result at: from the table of lengths, the argument and the
    result held whole and the semaphore at zero, to the same with the listed writes made in the result. -/
noncomputable def bodyRun (c : Dev nD) (i : grid0.Coords) (q : PosShare TreeShare) (T : Vec F S16 .i32)
    (X : Vec F S16x4096x1024 .f32) (O : Vec F S16x1024 .f32) :
    { L : List (View.Piece (Elt F) S16x1024 .f32) //
      ∀ (W : Waits sig Unit) (K : PUnit → sProp 𝕄),
        iprop((tbM.view.loc (c : Thread nD τ) ↦{q} T) ∗ (xM.view.loc (c : Thread nD τ) ↦{fullShare} X)
          ∗ (oM.view.loc (c : Thread nD τ) ↦{fullShare} O)
          ∗ semVal ((c : Thread nD τ), SemLoc.dma 0) 0 ∗ owes (c : Thread nD τ) 0 W
          ∗ ((tbM.view.loc (c : Thread nD τ) ↦{q} T) -∗ (xM.view.loc (c : Thread nD τ) ↦{fullShare} X)
            -∗ (oM.view.loc (c : Thread nD τ) ↦{fullShare} oM.view.writes (Elt F) O L)
            -∗ semVal ((c : Thread nD τ), SemLoc.dma 0) 0 -∗ (∃ W, owes (c : Thread nD τ) 0 W) -∗ K ⟨⟩))
        ⊢ wp frame (wpE (defs₀ (F := F)) Variants.none c none) Set.univ
            (cc0_body i tbM (Memref.isWhole_whole _) xM (Memref.isWhole_whole _) oM (Memref.isWhole_whole _) cc0_scratch0) K } := by
  refine ⟨?_, fun W K => ?run⟩
  case run =>
    iintro ⟨HT, HX, HO, Hs, HW, HK⟩
    have plan : Transfers.BatchOf (c : Thread nD τ) (SemLoc.dma (sig := sig) 0) 16 (windows := true) := trivial
    rw [cc0_body_eq_skeleton]; unfold cc0_body_skel
    sl_exec
    sl_step
    iapply HK $$ HT HX HO [Hs] [HW]
    · iexact Hs
    · iexists _; iexact HW

/-- The write of row `b` that the copy for batch element `b` makes. -/
def rowPiece (T : Vec F S16 .i32) (X : Vec F S16x4096x1024 .f32) (b : Fin 16) : View.Piece (Elt F) S16x1024 .f32 :=
  ⟨Rect.unit (s := S16x1024) ![b.val, 0] S1x1024.size (out_inb b.val b.isLt), rowRead b.val b.isLt T X⟩

/-- The run's writes are the sixteen rows', the last row's newest. -/
theorem bodyRun_list (c : Dev nD) (i : grid0.Coords) (q : PosShare TreeShare) (T : Vec F S16 .i32)
    (X : Vec F S16x4096x1024 .f32) (O : Vec F S16x1024 .f32) :
    (bodyRun c i q T X O).1 = (List.finRange 16).reverse.map (rowPiece T X) := by
  sl_kernel_rfl

/-- Each write of the run is of a row of the gathered array, at that row's place. -/
theorem bodyRun_pieces (c : Dev nD) (i : grid0.Coords) (q : PosShare TreeShare) (T : Vec F S16 .i32)
    (X : Vec F S16x4096x1024 .f32) (O : Vec F S16x1024 .f32) :
    ∀ p ∈ (bodyRun c i q T X O).1, ∀ x : p.1.shape.Idx, p.2 x = gath T X (p.1.emb x) := by
  rw [bodyRun_list]
  intro p hp
  obtain ⟨b, -, rfl⟩ := List.mem_map.mp hp
  exact rowRead_eq b.val b.isLt T X

/-- The run's writes fill the result. -/
theorem bodyRun_cover (c : Dev nD) (i : grid0.Coords) (q : PosShare TreeShare) (T : Vec F S16 .i32)
    (X : Vec F S16x4096x1024 .f32) (O : Vec F S16x1024 .f32) :
    ∀ y : S16x1024.Idx, ∃ p ∈ (bodyRun c i q T X O).1, y ∈ p.1.set :=
  View.cover_of_tiledL _ S1x1024.size (by sl_kernel_rfl)

/-- Writes that fill the result and agree with one array leave that array. -/
theorem writes_eq_of_pieces (O G : Vec F S16x1024 .f32) (L : List (View.Piece (Elt F) S16x1024 .f32))
    (hG : ∀ p ∈ L, ∀ x : p.1.shape.Idx, p.2 x = G (p.1.emb x)) (hc : ∀ y : S16x1024.Idx, ∃ p ∈ L, y ∈ p.1.set) :
    oM.view.writes (Elt F) O L = G :=
  funext fun y => View.read_writes_apply_of_pieces oM.view O G L hG y (hc y)

/-- The run's writes leave the gathered array. -/
theorem bodyRun_writes (c : Dev nD) (i : grid0.Coords) (q : PosShare TreeShare) (T : Vec F S16 .i32)
    (X : Vec F S16x4096x1024 .f32) (O : Vec F S16x1024 .f32) :
    oM.view.writes (Elt F) O (bodyRun c i q T X O).1 = gath T X :=
  writes_eq_of_pieces O _ _ (bodyRun_pieces c i q T X O) (bodyRun_cover c i q T X O)

end Cert.KernelIdeal.Hand

end

end
-- ==== Proof.Run.lean ====
/-
  Hand-written, untrusted. The kernel's launch and run, once for every float instance: from any memory with every
  semaphore at zero the call terminates, leaves both arguments as they were, the gathered rows in the result and every
  semaphore at zero.
-/
module

public import proofs.«01_k».proof.Proof.Body
public import Idealize.ShloMosaic.Lib.Pipeline.Frame
public import Idealize.ShloMosaic.Lib.Pipeline.Quiescent

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-- The kernel's own semaphore: the one every copy completes on. -/
abbrev osem : Fin 1 → SemLoc sig := fun _ => .dma 0

/-- The semaphore is scoped and no staging semaphore. -/
theorem ownSemFacts : Pipeline.OwnSemFacts spec0 osem := by decide

/-- The semaphore at zero, as the launch hands it over. -/
theorem ownSems0_eq (c : Dev nD) :
    (Pipeline.ownSems0 (Ix := Unit) (Val := Elt F) (Name := ℕ) (U := Pipeline.UC sig nD τ) (Lvl := ℕ) osem c : sProp 𝕄)
      = semVal ((c : Thread nD τ), SemLoc.dma 0) 0 :=
  Pipeline.ownSems0_eq_of_list c osem [0] (by decide) (by decide)

/-- The table of lengths at launch, on core `c`. -/
def lens (c : Dev nD) : Vec F S16 .i32 := m ((c : Thread nD τ).loc main_arg1)

/-- The argument at launch, on core `c`. -/
def arg (c : Dev nD) : Vec F S16x4096x1024 .f32 := m ((c : Thread nD τ).loc main_arg0)

/-- The contents of the prefetched table the pipeline runs at: the launch's. -/
def adm : (pcfg0 (F := F)).Adm :=
  ⟨fun k => m (((0 : Dev nD) : Thread nD τ).loc (pre0.ref k)), trivial⟩

/-- They are the launch's on every core, there being one. -/
theorem adm_eq (c : Dev nD) (k : Fin 1) : m ((c : Thread nD τ).loc (pre0.ref k)) = (adm m).1 k := by
  obtain rfl : c = 0 := Subsingleton.elim _ _
  rfl

/-- The prefetched table as one points-to. -/
theorem prefHeld_eq (c : Dev nD) (q : PosShare TreeShare) :
    (Pipeline.prefHeld (Ix := Unit) (Val := Elt F) (Name := ℕ) (U := Pipeline.UC sig nD τ) (Lvl := ℕ) pre0 c (fun _ => q)
        (adm m).1 : sProp 𝕄)
      = (tbM.view.loc (c : Thread nD τ) ↦{q} lens m c) := by
  obtain rfl : c = 0 := Subsingleton.elim _ _
  exact (bigSep_univ_eq_bigSepL [0] (by decide) (by decide) _)

/-- What the result holds at each end of the one grid point. -/
def outAt (c : Dev nD) (t : ℕ) : Vec F S16x1024 .f32 :=
  if t = 0 then m ((c : Thread nD τ).loc main_v0) else gath (lens m c) (arg m c)

/-- What the kernel holds between grid points: half of the table, the argument, the result and the semaphore at zero. -/
def inv (c : Dev nD) (t : ℕ) : sProp 𝕄 :=
  iprop((tbM.view.loc (c : Thread nD τ) ↦{fullShare.right} lens m c)
    ∗ (xM.view.loc (c : Thread nD τ) ↦{fullShare} arg m c)
    ∗ (oM.view.loc (c : Thread nD τ) ↦{fullShare} outAt m c t)
    ∗ semVal ((c : Thread nD τ), SemLoc.dma 0) 0)

/-- The pipeline's proof data: no windows, the invariant `inv`, nothing owed. -/
def dats (p : Fin 1) (c : Dev nD) :
    Dat τ (Elt F) Unit ℕ (Pipeline.UC sig nD τ) ℕ (Pipeline.pin (pcfgs (F := F)) (fun _ => adm m) p) c where
  A w := w.elim0
  after w _ := w.elim0
  Φ t := inv m c t.val
  q _ := fullShare
  owed _ := 0

/-- A separating conjunction over no windows is empty. -/
theorem bigSep_none (Φ : Fin 0 → sProp 𝕄) : bigSep Finset.univ Φ = (BI.emp : sProp 𝕄) :=
  bigSep_univ_eq_bigSepL [] (by decide) (by decide) Φ

/-- The body, from the invariant before its one grid point to the invariant after it. -/
theorem sound_body (c : Dev nD) :
    iprop(inv m c 0 ∗ (dats m 0 c).owesAt () t0_0.castSucc ∗ (BI.emp : sProp 𝕄))
      ⊢ wp frame (wpE (defs₀ (F := F)) Variants.none c none) Set.univ
          (cc0_body (grid0.coords t0_0) tbM (Memref.isWhole_whole _) xM (Memref.isWhole_whole _) oM
            (Memref.isWhole_whole _) cc0_scratch0)
          (fun _ => iprop(inv m c 1 ∗ (dats m 0 c).owesAt () t0_0.succ ∗ (BI.emp : sProp 𝕄))) := by
  unfold Dat.owesAt Pipeline.owesWithin
  rw [show (dats m 0 c).owed t0_0.castSucc = 0 from rfl, show (dats m 0 c).owed t0_0.succ = 0 from rfl]
  unfold inv
  rw [show outAt m c 1 = gath (lens m c) (arg m c) from rfl,
    ← bodyRun_writes c (grid0.coords t0_0) fullShare.right (lens m c) (arg m c) (outAt m c 0)]
  iintro ⟨⟨HT, HX, HO, Hs⟩, ⟨%W, -, HW⟩, -⟩
  iapply ((bodyRun c (grid0.coords t0_0) fullShare.right (lens m c) (arg m c) (outAt m c 0)).2 W _)
  isplitl [HT]; · iexact HT
  isplitl [HX]; · iexact HX
  isplitl [HO]; · iexact HO
  isplitl [Hs]; · iexact Hs
  isplitl [HW]; · iexact HW
  iintro HT HX HO Hs ⟨%W', HW'⟩
  isplitl [HT HX HO Hs]
  · isplitl [HT]; · iexact HT
    isplitl [HX]; · iexact HX
    isplitl [HO]; · iexact HO
    iexact Hs
  isplitl [HW']
  · iexists W'; isplitr; · ipureintro; exact fun _ _ => Or.inl trivial
    iexact HW'
  iempintro

/-- The pipeline's body obligation. -/
theorem body_obligation (c : Dev nD) :
    BodyObligationLoose (dats (F := F) m 0 c) (defs₀ (F := F)) Variants.none () Set.univ := fun t => by
  obtain rfl : t = t0_0 := fin_N0 t
  rw [show (defs₀ (F := F)) .tc (Pipeline.pin (pcfgs (F := F)) (fun _ => adm m) 0).body _
      = cc0_body (grid0.coords t0_0) tbM (Memref.isWhole_whole _) xM (Memref.isWhole_whole _) oM (Memref.isWhole_whole _)
          cc0_scratch0 from by unfold defs₀; rw [Defs.onTc_tc]]
  refine BIBase.Entails.trans ?_ ((sound_body m c).trans (BIBase.Entails.of_eq ?_))
  · exact BIBase.Entails.of_eq (congrArg (fun R => iprop(inv m c 0 ∗ (dats m 0 c).owesAt () t0_0.castSucc ∗ R)) (bigSep_none _))
  · exact congrArg (fun R => wp frame (wpE (defs₀ (F := F)) Variants.none c none) Set.univ (cc0_body (grid0.coords t0_0) tbM (Memref.isWhole_whole _) xM (Memref.isWhole_whole _) oM
            (Memref.isWhole_whole _) cc0_scratch0) (fun _ => iprop(inv m c 1 ∗ (dats m 0 c).owesAt () t0_0.succ ∗ R))) (bigSep_none _).symm

/-- What the run leaves: both arguments as they were, and the gathered rows in the result. -/
def Post (c : Dev nD) (s : MemSt nD τ sig (Elt F)) : Prop :=
  s.mem ((c : Thread nD τ).loc main_arg0) = arg m c ∧ s.mem ((c : Thread nD τ).loc main_arg1) = lens m c
    ∧ s.mem ((c : Thread nD τ).loc main_v0) = gath (lens m c) (arg m c)

/-- The launch element: the pipeline library's, there being no staging cell, and the unit of the copies' counters. -/
def u₀ : Pipeline.UC sig nD τ :=
  (initOf (Pipeline.cells (Pipeline.pin (pcfgs (F := F)) (fun _ => adm m)) (cellOf_inj fun _ => adm m))
    (Pipeline.launchToks (Pipeline.pin (pcfgs (F := F)) (fun _ => adm m)) (cellOf_inj fun _ => adm m)), 1)

/-- From any memory with every semaphore at zero, every fair execution of the kernel's call terminates with both arguments
    as they were, the gathered rows in the result and every semaphore at zero. -/
theorem run_main :
    θ_run defs (onTc (τ := τ) (main (F := F))) ⟨m, fun _ => 0, ρ⟩
      (fun r => (∀ c : Dev nD, Post m c r.2) ∧ r.2.sem = fun _ => 0) :=
  Pipeline.θ_run_region_pf_quiescent pcfgs (fun _ => adm m) (dats m) () (cellOf_inj fun _ => adm m) (0 : Fin 1)
    (launch0 (F := F)).win.to₀ ownSemFacts (launch0 (F := F)).pre embL defs₀ Variants.none m ρ main
    (hbody := body_obligation m) (hne := (launch0 (F := F)).block_pos) (harr := (launch0 (F := F)).arr_whole)
    (hstage := (launch0 (F := F)).stage_whole) (howed := fun _ _ => rfl)
    (G := fun _ => iprop(emp)) (u₀ := u₀ m)
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by
        rw [BI.bigSep_emp_const])
      iempintro)
    (V := fun c b => m ((c : Thread nD τ).loc b))
    (hmain := Pipeline.hmainP_region pcfgs 0 defs₀ Variants.none m main fun c => (main_chain c).trans rfl)
    (hsplit := fun c => by
      iintro -
      exact BIBase.Entails.of_eq (bigSep_none _).symm)
    (hpf := adm_eq m)
    (X := fun c => iprop((xM.view.loc (c : Thread nD τ) ↦{fullShare} arg m c)
      ∗ (oM.view.loc (c : Thread nD τ) ↦{fullShare} outAt m c 0) ∗ semVal ((c : Thread nD τ), SemLoc.dma 0) 0))
    (Y := fun c => iprop((tbM.view.loc (c : Thread nD τ) ↦{fullShare.right} lens m c)
      ∗ (xM.view.loc (c : Thread nD τ) ↦{fullShare} arg m c)
      ∗ (oM.view.loc (c : Thread nD τ) ↦{fullShare} gath (lens m c) (arg m c))))
    (Z := fun _ => iprop(emp))
    (hX := fun c => by
      rw [unscopedRestP0_eq, ownSems0_eq]
      iintro ⟨⟨HX, HO⟩, Hs, -, -, -⟩
      imodintro
      isplitl [HX HO Hs]
      · isplitl [HX]; · iexact HX
        isplitl [HO]; · iexact HO
        iexact Hs
      iempintro)
    (hin := fun c => by
      rw [prefHeld_eq, show (dats m 0 c).Φ 0 = inv m c 0 from rfl]
      unfold inv
      iintro ⟨⟨HX, HO, Hs⟩, HT, -⟩
      isplitl [HT]; · iexact HT
      isplitl [HX]; · iexact HX
      isplitl [HO]; · iexact HO
      iexact Hs)
    (hout := fun c => by
      rw [scopedRest0_eq, ownSems0_eq, show (dats m 0 c).Φ (Fin.last _) = inv m c 1 from rfl]
      unfold inv
      iintro ⟨HT, HX, HO, Hs⟩
      isplitl [HT HX HO]
      · isplitl [HT]; · iexact HT
        isplitl [HX]; · iexact HX
        iexact HO
      isplitl [Hs]; · iexact Hs
      iempintro)
    (QY := Post m)
    (hY := fun c s' => by
      iintro ⟨⟨HT, HX, HO⟩, -, HSI⟩
      icombine HSI HT gives %hT
      icombine HSI HX gives %hX
      icombine HSI HO gives %hO
      imodintro
      isplitr
      · ipureintro
        exact ⟨Buf.eq_of_forall_mem_univ hX, Buf.eq_of_forall_mem_univ hT, Buf.eq_of_forall_mem_univ hO⟩
      iexact HSI)
    (hQ := fun _ h hz => ⟨fun c => (h c).2.2, hz⟩)

end Cert.KernelIdeal.Hand

end

end
-- ==== Proof.Ref.lean ====
/-
  Hand-written, untrusted. The reference's composed term is the gather of the last valid rows (Words.lean `gath`): the
  clipped index is a word in `0 … 4095`, so it is never wrapped around, every row it names is inside the time axis and the
  fill value is never selected.
-/
module

public import proofs.«01_k».proof.Proof.Words
public import proofs.«01_k».proof.Proof.Gen.ReferenceIdeal.Run
public import Idealize.ShloMosaic.Lib.ReduceAll
public import Idealize.ShloMosaic.Lib.ValueLayout
public import Idealize.ShloMosaic.Lib.Quiescent

@[expose] public section

noncomputable section

namespace Cert.ReferenceIdeal.Hand

open Cert.ReferenceIdeal Cert.ReferenceIdeal.Gen
open Idealize.ShloMosaic Idealize.ShloMosaic.ValueIdx Idealize.ShloMosaic.TcCoe Idealize.SL.Sem
open Cert.KernelIdeal.Hand (lastIdx lastIdx_le lastRow gath)

variable {F : FTy → Type} [FloatOps F]

/-- The reference's time indices: each length minus one, clipped to `0 … 4095`, as a column of words. -/
def clipV (T : Vec F S16 .i32) : Vec F S16x1x1 .i32 :=
  broadcastInDim S16x1x1 ![0] bcast_S16_S16x1x1_0 (minsi (broadcastInDim S16 ![] bcast_S_S16 (id (constantI S_ 32 4095#32)))
    (maxsi (broadcastInDim S16 ![] bcast_S_S16 (id (constantI S_ 32 0#32))) (subi T (broadcastInDim S16 ![] bcast_S_S16 (constantI S_ 32 1#32)))))

/-- The time indices with a negative one counted from the end of the axis: what the reference gathers at. -/
def idxV (T : Vec F S16 .i32) : Vec F S16x1x1 .i32 :=
  select (cmpi .slt (clipV T) (broadcastInDim S16x1x1 ![] bcast_S_S16x1x1 (constantI S_ 32 0#32)))
    (addi (clipV T) (broadcastInDim S16x1x1 ![] bcast_S_S16x1x1 (constantI S_ 32 4096#32))) (clipV T)

/-- The bits telling which indices lie on the time axis. -/
def inV (T : Vec F S16 .i32) : IVec S16x1x1 1 :=
  andi (cmpi .sge (idxV T) (broadcastInDim S16x1x1 ![] bcast_S_S16x1x1 (constantI S_ 32 0#32)))
    (cmpi .sle (idxV T) (broadcastInDim S16x1x1 ![0, 1, 2] bcast_S1x1x1_S16x1x1_0_1_2 (broadcastInDim S1x1x1 ![2] bcast_S1_S1x1x1_2 (constantI S1 32 4095#32))))

/-- The reference's result as a function of its two arguments. -/
def refV (T : Vec F S16 .i32) (X : Vec F S16x4096x1024 .f32) : Vec F S16x1024 .f32 :=
  shapeCast S16x1024 (select (broadcastInDim S16x1x1024 ![0, 1] bcast_S16x1_S16x1x1024_0_1
      (Host.reduce IntOp.andi (inV T) (constantI S_ 1 1#1) reducesTo_S16x1x1_S16x1_d2 h_S_))
    (Host.gather gather_S16x4096x1024_S16x1x1_S16x1x1024_2_1_0_0_1_2_111024 X (idxV T))
    (broadcastInDim S16x1x1024 ![] bcast_S_S16x1x1024 (constant S_ .f32 0x7FC00000#32))) shapeCasts_S16x1x1024_S16x1024

/-- The clipped word a length word gives. -/
abbrev clipW (v : BitVec 32) : BitVec 32 := Scalar.minsi (4095#32) (Scalar.maxsi (0#32) (Scalar.subi v (1#32)))

/-- A clipped word read as a signed integer is the time index. -/
theorem clipW_toInt (v : BitVec 32) : (clipW v).toInt = lastIdx v := by
  have h : (clipW v).toNat ≤ 4095 := lastIdx_le v
  have := BitVec.toInt_eq_toNat_cond (clipW v)
  rw [if_pos (by omega)] at this
  exact this

/-- A clipped word is not negative. -/
theorem clipW_slt (v : BitVec 32) : (clipW v).slt 0#32 = false := by
  rw [Bool.eq_false_iff, ne_eq, BitVec.slt_iff_toInt_lt, clipW_toInt]
  have h0 : (0#32).toInt = 0 := by decide
  omega

/-- A clipped word is at least zero as a signed word. -/
theorem clipW_sge (v : BitVec 32) : (0#32).sle (clipW v) = true := by
  rw [BitVec.sle_iff_toInt_le, clipW_toInt]
  have h0 : (0#32).toInt = 0 := by decide
  omega

/-- A clipped word is at most 4095 as a signed word. -/
theorem clipW_sle (v : BitVec 32) : (clipW v).sle 4095#32 = true := by
  rw [BitVec.sle_iff_toInt_le, clipW_toInt]
  have h0 : (4095#32).toInt = 4095 := by decide
  have := lastIdx_le v
  omega

/-- The clipped column at an index is the clipped word of that batch element's length. -/
theorem clipV_apply (T : Vec F S16 .i32) (i : S16x1x1.Idx) : clipV T i = clipW (T (ix1 (i 0))) := by
  exact (broadcastInDim_apply (t := S16x1x1) ![0] bcast_S16_S16x1x1_0 _ i (ix1 (i 0)) (fun a => match a with | ⟨0, _⟩ => rfl)).trans rfl

/-- No index is wrapped around: the gathered index is the clipped one. -/
theorem idxV_apply (T : Vec F S16 .i32) (i : S16x1x1.Idx) : idxV T i = clipW (T (ix1 (i 0))) := by
  show Scalar.select (BitVec.ofBool ((clipV T i).slt 0#32)) _ (clipV T i) = _
  rw [clipV_apply, clipW_slt]
  rfl

/-- Every gathered index lies on the time axis. -/
theorem inV_apply (T : Vec F S16 .i32) (i : S16x1x1.Idx) : inV T i = 1#1 := by
  show (BitVec.ofBool ((0#32).sle (idxV T i))) &&& (BitVec.ofBool ((idxV T i).sle 4095#32)) = 1#1
  rw [idxV_apply, clipW_sge, clipW_sle]
  rfl

/-- The reference's gather at an index of its result: the row its batch element's index names, at its own column. -/
theorem gather_apply (T : Vec F S16 .i32) (X : Vec F S16x4096x1024 .f32) (b : Fin 16) (h : Fin 1024) :
    Host.gather gather_S16x4096x1024_S16x1x1_S16x1x1024_2_1_0_0_1_2_111024 X (idxV T) (ix3 b (0 : Fin 1) h)
      = X (ix3 b (lastRow (T (ix1 b))) h) := by
  unfold Host.gather
  congr 1
  funext a
  refine Fin.ext ?_
  show GatherDims.start _ (ix3 b (0 : Fin 1) h) (idxV T) a + GatherDims.batchCoord _ (ix3 b (0 : Fin 1) h) a
    + GatherDims.offCoord _ (ix3 b (0 : Fin 1) h) a = _
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (show (0 : Fin 3) ∈ [(0 : Fin 3)] from List.mem_singleton.mpr rfl),
      GatherDims.offCoord_eq_zero _ _ _
        (fun h => ((GatherDims.mem_sKept _ _).mp h).2 (show (0 : Fin 3) ∈ [(0 : Fin 3)] from List.mem_singleton.mpr rfl))]
    simp only [Nat.zero_add, Nat.add_zero]
    unfold GatherDims.batchCoord
    rw [dif_pos (show (0 : Fin 3) ∈ GatherDims.operandBatchingDims gather_S16x4096x1024_S16x1x1_S16x1x1024_2_1_0_0_1_2_111024
      from List.mem_singleton.mpr rfl)]
    rfl
  · rw [GatherDims.batchCoord_eq_zero _ _ _ (show (1 : Fin 3) ∉ [(0 : Fin 3)] by decide),
      GatherDims.offCoord_eq_zero _ _ _
        (fun h => ((GatherDims.mem_sKept _ _).mp h).1 (show (1 : Fin 3) ∈ [(1 : Fin 3)] from List.mem_singleton.mpr rfl))]
    simp only [Nat.add_zero]
    unfold GatherDims.start
    rw [dif_pos (show (1 : Fin 3) ∈ GatherDims.startIndexMap gather_S16x4096x1024_S16x1x1_S16x1x1024_2_1_0_0_1_2_111024
      from List.mem_singleton.mpr rfl), idxV_apply, clipW_toInt, Int.toNat_natCast]
    exact Nat.min_eq_left (lastIdx_le _)
  · rw [GatherDims.batchCoord_eq_zero _ _ _ (show (2 : Fin 3) ∉ [(0 : Fin 3)] by decide)]
    unfold GatherDims.start
    rw [dif_neg (show (2 : Fin 3) ∉ GatherDims.startIndexMap gather_S16x4096x1024_S16x1x1_S16x1x1024_2_1_0_0_1_2_111024 from
      (by decide : (2 : Fin 3) ∉ [(1 : Fin 3)]))]
    simp only [Nat.zero_add, Nat.add_zero]
    rfl

/-- The reference's result is the gather of the last valid rows. -/
theorem refV_eq (T : Vec F S16 .i32) (X : Vec F S16x4096x1024 .f32) : refV T X = gath T X := by
  funext y
  obtain ⟨b, h, rfl⟩ : ∃ b h, y = ix2 b h := ⟨y 0, y 1, eq_ix2 y⟩
  unfold refV
  rw [shapeCast_apply _ shapeCasts_S16x1x1024_S16x1024 (ix2 b h) (ix3 b (0 : Fin 1) h) (by
      rw [Shape.rowMajor_val_three, Shape.rowMajor_val_two]
      show (b.val * 1 + 0) * 1024 + h.val = b.val * 1024 + h.val
      omega),
    select_apply, broadcastInDim_apply _ _ _ (ix3 b (0 : Fin 1) h) (ix2 b (0 : Fin 1))
      (fun a => match a with | ⟨0, _⟩ => rfl | ⟨1, _⟩ => rfl),
    Host.reduce_andi_one _ _ _ _ _ rfl (inV_apply T), select_one, gather_apply]
  rfl

variable (m : (ℓ : Loc nD τ sig) → Buf (Elt F) ℓ) (ρ : Dev nD → PrngReg)

/-- The reference runs, from any memory: its result ends as the gather of the last valid rows, its arguments as they were,
    and every counter at zero. -/
theorem run_main : θ_run defs (onTc (τ := τ) (main (F := F))) ⟨m, fun _ => 0, ρ⟩ (fun r =>
    (∀ c : Dev nD, r.2.mem ((c.tc : Thread nD τ).loc main_v5)
        = gath (F := F) (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r h => ⟨fun c => ⟨(h c).1.trans (refV_eq (F := F) _ _), (h c).2⟩,
    sem_eq_zero_of_no_sems (by decide) r.2⟩) (Value.run (F := F) m ρ)

end Cert.ReferenceIdeal.Hand

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Reference
public import proofs.«01_k».proof.Proof.Run
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The program as printed runs, its arguments unchanged, every counter back at zero: the idealized program's run, which
    holds for any float values, read at the machine's words. -/
theorem frame_kernel : Cert.quiescent_Kernel := fun m ρ _ =>
  (θ_run Cert.KernelIdeal.defs _ _).mono (fun _ h => ⟨fun c => ⟨(h.1 c).1, (h.1 c).2.1⟩, h.2⟩)
    (Cert.KernelIdeal.Hand.run_main (F := Bits) m ρ)

/-- The idealized program runs, its arguments unchanged, every counter back at zero. -/
theorem frame_kernelIdeal : Cert.quiescent_KernelIdeal := fun m ρ _ =>
  (θ_run Cert.KernelIdeal.defs _ _).mono (fun _ h => ⟨fun c => ⟨(h.1 c).1, (h.1 c).2.1⟩, h.2⟩)
    (Cert.KernelIdeal.Hand.run_main (F := Ideal) m ρ)

/-- The idealized reference runs, its arguments unchanged, every counter at zero. -/
theorem frame_referenceIdeal : Cert.quiescent_ReferenceIdeal := fun m ρ _ =>
  (θ_run Cert.ReferenceIdeal.defs _ _).mono (fun _ h => ⟨fun c => (h.1 c).2, h.2⟩)
    (Cert.ReferenceIdeal.Hand.run_main (F := Ideal) m ρ)

/-- The reference runs, its arguments unchanged, every counter at zero: the idealized reference's run read at the
    machine's words. -/
theorem frame_reference : Cert.quiescent_Reference := fun m ρ _ =>
  (θ_run Cert.ReferenceIdeal.defs _ _).mono (fun _ h => ⟨fun c => (h.1 c).2, h.2⟩)
    (Cert.ReferenceIdeal.Hand.run_main (F := Bits) m ρ)

/-- Program and reference compute the same array over the extended reals: the gather of the last valid rows. -/
theorem algebraic : Cert.algebraic_KernelIdeal_ReferenceIdeal := fun m ρ m' ρ' _ hagree =>
  ⟨fun c => Cert.KernelIdeal.Hand.gath (F := Ideal) (m ((c.tc : Thread _ _).loc Cert.KernelIdeal.main_arg1))
      (m ((c.tc : Thread _ _).loc Cert.KernelIdeal.main_arg0)),
    (θ_run Cert.KernelIdeal.defs _ _).mono (fun _ h c => ⟨(h.1 c).2.2, (h.1 c).1, (h.1 c).2.1⟩)
      (Cert.KernelIdeal.Hand.run_main (F := Ideal) m ρ),
    (θ_run Cert.ReferenceIdeal.defs _ _).mono
      (fun _ h c => ⟨(h.1 c).1.trans (congrArg₂ (Cert.KernelIdeal.Hand.gath (F := Ideal)) (hagree c).2 (hagree c).1), (h.1 c).2⟩)
      (Cert.ReferenceIdeal.Hand.run_main (F := Ideal) m' ρ')⟩

/-- Program and reference compute the same array bit for bit: the gather of the last valid rows. -/
theorem bitexact : Cert.bitexact_Kernel_Reference := fun m ρ m' ρ' _ hagree =>
  ⟨fun c => Cert.KernelIdeal.Hand.gath (F := Bits) (m ((c.tc : Thread _ _).loc Cert.Kernel.main_arg1))
      (m ((c.tc : Thread _ _).loc Cert.Kernel.main_arg0)),
    (θ_run Cert.KernelIdeal.defs _ _).mono (fun _ h c => ⟨(h.1 c).2.2, (h.1 c).1, (h.1 c).2.1⟩)
      (Cert.KernelIdeal.Hand.run_main (F := Bits) m ρ),
    (θ_run Cert.ReferenceIdeal.defs _ _).mono
      (fun _ h c => ⟨(h.1 c).1.trans (congrArg₂ (Cert.KernelIdeal.Hand.gath (F := Bits)) (hagree c).2 (hagree c).1), (h.1 c).2⟩)
      (Cert.ReferenceIdeal.Hand.run_main (F := Bits) m' ρ')⟩

/-- Everything this certificate claims. -/
theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, algebraic, bitexact⟩

end Cert.Proof

end
